-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_finite [hPre_some_finite : Cert.Pre_some_finite.Facts] (m : (ℓ : Loc Cert.KernelIdeal.nD Cert.KernelIdeal.τ Cert.KernelIdeal.sig) → Buf (Elt Ideal) ℓ) : Prop :=
  ∀ c : Dev Cert.KernelIdeal.nD,
    (Cert.Pre_some_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_finite [hPre_some_finite : Cert.Pre_some_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_some_finite [hKernelIdeal : Cert.KernelIdeal.Facts] [hPre_some_finite : Cert.Pre_some_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_some_finite [hReferenceIdeal : Cert.ReferenceIdeal.Facts] [hPre_some_finite : Cert.Pre_some_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_some_finite [hKernelIdeal : Cert.KernelIdeal.Facts] [hReferenceIdeal : Cert.ReferenceIdeal.Facts] [hPre_some_finite : Cert.Pre_some_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_some_finite : Cert.Pre_some_finite.Facts),
    quiescent_Kernel (hKernel := hKernel)
    ∧ quiescent_KernelIdeal (hKernelIdeal := hKernelIdeal)
    ∧ quiescent_KernelIdeal_pre_some_finite (hKernelIdeal := hKernelIdeal) (hPre_some_finite := hPre_some_finite)
    ∧ quiescent_ReferenceIdeal (hReferenceIdeal := hReferenceIdeal)
    ∧ quiescent_ReferenceIdeal_pre_some_finite (hReferenceIdeal := hReferenceIdeal) (hPre_some_finite := hPre_some_finite)
    ∧ preserves_Kernel_KernelIdeal
    ∧ algebraic_KernelIdeal_ReferenceIdeal_pre_some_finite (hKernelIdeal := hKernelIdeal) (hReferenceIdeal := hReferenceIdeal) (hPre_some_finite := hPre_some_finite)
-- ==== Pre_some_finite.lean ====
abbrev S4x3x65536 : Shape := ⟨3, ![4, 3, 65536]⟩
abbrev S_ : Shape := ⟨0, ![]⟩
abbrev S4x3 : Shape := ⟨2, ![4, 3]⟩

class Facts : Prop where
  bcast_S_S4x3x65536 : S_.BroadcastsInDim S4x3x65536 (![] : Fin 0 → Fin S4x3x65536.rank)
  reducesTo_S4x3x65536_S4x3_d2 : S4x3x65536.ReducesTo [2] S4x3
  h_S_ : 0 < S_.numel

variable [Facts]

def fn {F : FTy → Type} [FloatOps F] (main_arg0 : FVec F S4x3x65536 .f32) : IVec S4x3 1 :=
  let main_v0 : FVec F S4x3x65536 .f32 := Host.absf main_arg0
  let main_cst : FVec F S_ .f32 := constant S_ .f32 0x7F800000#32
  let main_v1 : FVec F S4x3x65536 .f32 := broadcastInDim S4x3x65536 ![] bcast_S_S4x3x65536 main_cst
  let main_v2 : IVec S4x3x65536 1 := cmpf .olt main_v0 main_v1
  let main_c : IVec S_ 1 := constantI S_ 1 0#1
  let main_v3 : IVec S4x3 1 := (fun x v => Host.reduce IntOp.ori x v reducesTo_S4x3x65536_S4x3_d2 h_S_) main_v2 main_c
  main_v3
-- ==== Kernel.lean ====
abbrev S4x3x65536 : Shape := ⟨3, ![4, 3, 65536]⟩
abbrev S2x6x8x8192 : Shape := ⟨4, ![2, 6, 8, 8192]⟩
abbrev S12x256x8 : Shape := ⟨3, ![12, 256, 8]⟩
abbrev S1x6x8x8192 : Shape := ⟨4, ![1, 6, 8, 8192]⟩
abbrev S6x256x8 : Shape := ⟨3, ![6, 256, 8]⟩
abbrev S6x8x8192 : Shape := ⟨3, ![6, 8, 8192]⟩
abbrev S258x6x1x128 : Shape := ⟨4, ![258, 6, 1, 128]⟩
abbrev S8x128 : Shape := ⟨2, ![8, 128]⟩
abbrev S1x8x128 : Shape := ⟨3, ![1, 8, 128]⟩
abbrev S128 : Shape := ⟨1, ![128]⟩
abbrev S1x128 : Shape := ⟨2, ![1, 128]⟩
abbrev S1x1x1x128 : Shape := ⟨4, ![1, 1, 1, 128]⟩
abbrev S128x8 : Shape := ⟨2, ![128, 8]⟩
abbrev S258x1x1x128 : Shape := ⟨4, ![258, 1, 1, 128]⟩
abbrev S258x128 : Shape := ⟨2, ![258, 128]⟩
abbrev S258x8 : Shape := ⟨2, ![258, 8]⟩
abbrev S256x8 : Shape := ⟨2, ![256, 8]⟩
abbrev S1x8 : Shape := ⟨2, ![1, 8]⟩
abbrev S1x256x8 : Shape := ⟨3, ![1, 256, 8]⟩
abbrev S12x256x1 : Shape := ⟨3, ![12, 256, 1]⟩
abbrev S12x256 : Shape := ⟨2, ![12, 256]⟩
abbrev S4x3x256 : Shape := ⟨3, ![4, 3, 256]⟩

abbrev nBuf : Space → Nat
  | .hbm => 6
  | .vmem => 6
  | .smem => 0
  | _ => 0

abbrev bufTy : (tb : Table) → Fin (tcTables nBuf tb) → BufTy
  | .hbm, ⟨0, _⟩ => ⟨S4x3x65536, .f32⟩
  | .hbm, ⟨1, _⟩ => ⟨S2x6x8x8192, .f32⟩
  | .hbm, ⟨2, _⟩ => ⟨S12x256x8, .f32⟩
  | .hbm, ⟨3, _⟩ => ⟨S12x256x1, .f32⟩
  | .hbm, ⟨4, _⟩ => ⟨S12x256, .f32⟩
  | .hbm, ⟨5, _⟩ => ⟨S4x3x256, .f32⟩
  | .local _ .vmem, ⟨0, _⟩ => ⟨S1x6x8x8192, .f32⟩
  | .local _ .vmem, ⟨1, _⟩ => ⟨S1x6x8x8192, .f32⟩
  | .local _ .vmem, ⟨2, _⟩ => ⟨S6x256x8, .f32⟩
  | .local _ .vmem, ⟨3, _⟩ => ⟨S6x256x8, .f32⟩
  | .local _ .vmem, ⟨4, _⟩ => ⟨S6x8x8192, .f32⟩
  | .local _ .vmem, ⟨5, _⟩ => ⟨S258x6x1x128, .f32⟩
  | _, _ => ⟨S4x3x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c129_i32 : BitVec 32 := 129#32
  let v7 : BitVec 32 := Scalar.addi c0_i32 c129_i32
  let c1_i32 : BitVec 32 := 1#32
  ⟨c0_i32, v7, c1_i32⟩
def k0_off1 (k0_t1 : Fin k0_t1_loop.trips) (c0_i32_1181 : BitVec 32) : Fin 4 → Nat :=
  let c0_i32 : BitVec 32 := 0#32
  let c1_i32 : BitVec 32 := 1#32
  let arg5 : BitVec 32 := Scf.iv c0_i32 c1_i32 k0_t1
  let c2_i32 : BitVec 32 := 2#32
  let v141 : BitVec 32 := Scalar.muli arg5 c2_i32
  let v4015 : BitVec 32 := Scalar.addi v141 c0_i32_1181
  let v4016 : Index := Scalar.indexCast v4015
  let c0_1182 : Index := 0#32
  let c0_1183 : Index := 0#32
  let c0_1184 : Index := 0#32
  ![v4016.toNat, 0, 0, 0]
def k0_off2 (k0_t1 : Fin k0_t1_loop.trips) (c0_i32_1186 : BitVec 32) : Fin 4 → Nat :=
  let c0_i32 : BitVec 32 := 0#32
  let c1_i32 : BitVec 32 := 1#32
  let arg5 : BitVec 32 := Scf.iv c0_i32 c1_i32 k0_t1
  let c2_i32 : BitVec 32 := 2#32
  let v141 : BitVec 32 := Scalar.muli arg5 c2_i32
  let v4023 : BitVec 32 := Scalar.addi v141 c0_i32_1186
  let v4024 : Index := Scalar.indexCast v4023
  let c1_1187 : Index := 1#32
  let c0_1188 : Index := 0#32
  let c0_1189 : Index := 0#32
  ![v4024.toNat, 1, 0, 0]
def k0_off3 (k0_t1 : Fin k0_t1_loop.trips) (c0_i32_1191 : BitVec 32) : Fin 4 → Nat :=
  let c0_i32 : BitVec 32 := 0#32
  let c1_i32 : BitVec 32 := 1#32
  let arg5 : BitVec 32 := Scf.iv c0_i32 c1_i32 k0_t1
  let c2_i32 : BitVec 32 := 2#32
  let v141 : BitVec 32 := Scalar.muli arg5 c2_i32
  let v4031 : BitVec 32 := Scalar.addi v141 c0_i32_1191
  let v4032 : Index := Scalar.indexCast v4031
  let c2_1192 : Index := 2#32
  let c0_1193 : Index := 0#32
  let c0_1194 : Index := 0#32
  ![v4032.toNat, 2, 0, 0]
def k0_off4 (k0_t1 : Fin k0_t1_loop.trips) (c0_i32_1196 : BitVec 32) : Fin 4 → Nat :=
  let c0_i32 : BitVec 32 := 0#32
  let c1_i32 : BitVec 32 := 1#32
  let arg5 : BitVec 32 := Scf.iv c0_i32 c1_i32 k0_t1
  let c2_i32 : BitVec 32 := 2#32
  let v141 : BitVec 32 := Scalar.muli arg5 c2_i32
  let v4039 : BitVec 32 := Scalar.addi v141 c0_i32_1196
  let v4040 : Index := Scalar.indexCast v4039
  let c3_1197 : Index := 3#32
  let c0_1198 : Index := 0#32
  let c0_1199 : Index := 0#32
  ![v4040.toNat, 3, 0, 0]
def k0_off5 (k0_t1 : Fin k0_t1_loop.trips) (c0_i32_1201 : BitVec 32) : Fin 4 → Nat :=
  let c0_i32 : BitVec 32 := 0#32
  let c1_i32 : BitVec 32 := 1#32
  let arg5 : BitVec 32 := Scf.iv c0_i32 c1_i32 k0_t1
  let c2_i32 : BitVec 32 := 2#32
  let v141 : BitVec 32 := Scalar.muli arg5 c2_i32
  let v4047 : BitVec 32 := Scalar.addi v141 c0_i32_1201
  let v4048 : Index := Scalar.indexCast v4047
  let c4_1202 : Index := 4#32
  let c0_1203 : Index := 0#32
  let c0_1204 : Index := 0#32
  ![v4048.toNat, 4, 0, 0]
def k0_off6 (k0_t1 : Fin k0_t1_loop.trips) (c0_i32_1206 : BitVec 32) : Fin 4 → Nat :=
  let c0_i32 : BitVec 32 := 0#32
  let c1_i32 : BitVec 32 := 1#32
  let arg5 : BitVec 32 := Scf.iv c0_i32 c1_i32 k0_t1
  let c2_i32 : BitVec 32 := 2#32
  let v141 : BitVec 32 := Scalar.muli arg5 c2_i32
  let v4055 : BitVec 32 := Scalar.addi v141 c0_i32_1206
  let v4056 : Index := Scalar.indexCast v4055
  let c5_1207 : Index := 5#32
  let c0_1208 : Index := 0#32
  let c0_1209 : Index := 0#32
  ![v4056.toNat, 5, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6x8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x3x65536 : Shape := ⟨3, ![4, 3, 65536]⟩
abbrev S256 : Shape := ⟨1, ![256]⟩
abbrev S_ : Shape := ⟨0, ![]⟩
abbrev S4x3x1x65536 : Shape := ⟨4, ![4, 3, 1, 65536]⟩
abbrev S1x1x256x1 : Shape := ⟨4, ![1, 1, 256, 1]⟩
abbrev S4x3x256x65536 : Shape := ⟨4, ![4, 3, 256, 65536]⟩
abbrev S4x3x256 : Shape := ⟨3, ![4, 3, 256]⟩
abbrev S4x3 : Shape := ⟨2, ![4, 3]⟩
abbrev S4x3x1 : Shape := ⟨3, ![4, 3, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x3x65536, .f32⟩
  | .hbm, ⟨1, _⟩ => ⟨S256, .f32⟩
  | .hbm, ⟨2, _⟩ => ⟨S_, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S4x3x1x65536, .f32⟩
  | .hbm, ⟨12, _⟩ => ⟨S1x1x256x1, .f32⟩
  | .hbm, ⟨13, _⟩ => ⟨S4x3x256x65536, .f32⟩
  | .hbm, ⟨14, _⟩ => ⟨S4x3x256x65536, .f32⟩
  | .hbm, ⟨15, _⟩ => ⟨S4x3x256x65536, .f32⟩
  | .hbm, ⟨16, _⟩ => ⟨S_, .f32⟩
  | .hbm, ⟨17, _⟩ => ⟨S4x3x256x65536, .f32⟩
  | .hbm, ⟨18, _⟩ => ⟨S4x3x256x65536, .f32⟩
  | .hbm, ⟨19, _⟩ => ⟨S_, .f32⟩
  | .hbm, ⟨20, _⟩ => ⟨S4x3x256x65536, .f32⟩
  | .hbm, ⟨21, _⟩ => ⟨S4x3x256x65536, .f32⟩
  | .hbm, ⟨22, _⟩ => ⟨S4x3x256x65536, .f32⟩
  | .hbm, ⟨23, _⟩ => ⟨S4x3x256x65536, .f32⟩
  | .hbm, ⟨24, _⟩ => ⟨S_, .f32⟩
  | .hbm, ⟨25, _⟩ => ⟨S4x3x256x65536, .f32⟩
  | .hbm, ⟨26, _⟩ => ⟨S4x3x256x65536, .f32⟩
  | .hbm, ⟨27, _⟩ => ⟨S_, .f32⟩
  | .hbm, ⟨28, _⟩ => ⟨S4x3x256x65536, .f32⟩
  | .hbm, ⟨29, _⟩ => ⟨S4x3x256x65536, .f32⟩
  | .hbm, ⟨30, _⟩ => ⟨S_, .f32⟩
  | .hbm, ⟨31, _⟩ => ⟨S4x3x256x65536, .f32⟩
  | .hbm, ⟨32, _⟩ => ⟨S4x3x256x65536, .f32⟩
  | .hbm, ⟨33, _⟩ => ⟨S_, .f32⟩
  | .hbm, ⟨34, _⟩ => ⟨S4x3x256x65536, .f32⟩
  | .hbm, ⟨35, _⟩ => ⟨S4x3x256x65536, .f32⟩
  | .hbm, ⟨36, _⟩ => ⟨S4x3x256x65536, .f32⟩
  | .hbm, ⟨37, _⟩ => ⟨S4x3x256x65536, .f32⟩
  | .hbm, ⟨38, _⟩ => ⟨S_, .f32⟩
  | .hbm, ⟨39, _⟩ => ⟨S4x3x256x65536, .f32⟩
  | .hbm, ⟨40, _⟩ => ⟨S4x3x256x65536, .f32⟩
  | .hbm, ⟨41, _⟩ => ⟨S_, .f32⟩
  | .hbm, ⟨42, _⟩ => ⟨S4x3x256x65536, .f32⟩
  | .hbm, ⟨43, _⟩ => ⟨S4x3x256x65536, .f32⟩
  | .hbm, ⟨44, _⟩ => ⟨S4x3x256x65536, .f32⟩
  | .hbm, ⟨45, _⟩ => ⟨S_, .f32⟩
  | .hbm, ⟨46, _⟩ => ⟨S4x3x256, .f32⟩
  | .hbm, ⟨47, _⟩ => ⟨S_, .f32⟩
  | .hbm, ⟨48, _⟩ => ⟨S4x3, .f32⟩
  | .hbm, ⟨49, _⟩ => ⟨S4x3x1, .f32⟩
  | .hbm, ⟨50, _⟩ => ⟨S4x3x256, .f32⟩
  | .hbm, ⟨51, _⟩ => ⟨S4x3x256, .f32⟩
  | _, _ => ⟨S4x3x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_8 : Ref sig .tc := ⟨.hbm, 38, rfl⟩
abbrev main_v28 : Ref sig .tc := ⟨.hbm, 39, rfl⟩
abbrev main_v29 : Ref sig .tc := ⟨.hbm, 40, rfl⟩
abbrev main_cst_9 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_10 : Ref sig .tc := ⟨.hbm, 45, rfl⟩
abbrev main_v33 : Ref sig .tc := ⟨.hbm, 46, rfl⟩
abbrev main_cst_11 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Proof.Tail.lean ====
/- The kernel's closing computation on one row's sums, over the extended reals: the rounding of the sums to a narrow format
   leaves nothing over, and the product with ones adds up the lanes. -/
module

public import proofs.«01_k».proof.Proof.Gen.KernelIdeal.Skeleton
public import Idealize.ShloMosaic.Lib.Pointwise

@[expose] public section

noncomputable section

namespace Cert.Hist

open Idealize.ShloMosaic Idealize.ShloMosaic.TcCoe
open Cert.KernelIdeal Cert.KernelIdeal.Gen

/-- The sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- When the lane sums `R e l` of every edge `e` are real, the closing computation at bin `k` is the difference of the totals of
    edges `k` and `k + 1`, times the reciprocal of the difference of the totals of the first edge and of the last one. -/
theorem tail_value (w : FVec Ideal S258x1x1x128 .f32) (R : Fin 258 → Fin 128 → ℝ)
    (hw : ∀ e l, w (ix4 e (0 : Fin 1) (0 : Fin 1) l) = ((R e l : ℝ) : EReal)) (k : Fin 256) (z : Fin 8) :
    k0_pay2 (F := Ideal) k0_pay1234 w (ix3 0 k z)
      = ((∑ l, R ⟨k.val, by omega⟩ l - ∑ l, R ⟨k.val + 1, by omega⟩ l : ℝ) : EReal)
        * Ideal.div 1 ((∑ l, R 0 l - ∑ l, R 256 l : ℝ) : EReal) := by
  pointwise [k0_pay2, k0_pay1234]
  simp only [hw, ← EReal.coe_sub, sub_self, EReal.coe_zero, Finset.sum_const_zero, add_zero, ← coe_sum]
  simp only [add_comm 1 k.val]

end Cert.Hist

end
-- ==== Proof.Trip.lean ====
/- What one trip of the kernel's loop stores, written as a sum over the lane chunks: the twelve pieces of a trip (two edges of six
   rows) are one function `part` of the edge and the row. Stated for every instance of the float operations. -/
module

public import proofs.«01_k».proof.Proof.Gen.KernelIdeal.Loops
public import Idealize.ShloMosaic.Lib.Pipeline.CanonAppend
public import Idealize.ShloMosaic.Lib.ValueIdxCore

@[expose] public section

noncomputable section

namespace Cert.Hist

open Idealize.ShloMosaic Idealize.ShloMosaic.TcCoe Idealize.ShloMosaic.ValueIdx Cert.KernelIdeal Cert.KernelIdeal.Gen

variable {F : FTy → Type} [FloatOps F]

/-- Lane chunk `v` of row `r` lies inside the halved samples. -/
theorem chunk_inb (r v : ℕ) (hr : r < 6) (hv : v < 64) :
    ∀ a, (![r, 0, 128 * v] : Fin 3 → ℕ) a + S1x8x128.size a ≤ S6x8x8192.size a
  | ⟨0, _⟩ => by show r + 1 ≤ 6; omega
  | ⟨1, _⟩ => by show 0 + 8 ≤ 8; omega
  | ⟨2, _⟩ => by show 128 * v + 128 ≤ 8192; omega

/-- Lane chunk `v` of row `r` of the halved samples, as the kernel loads it. -/
def chunk (arg3 : Memref sig .tc .vmem S6x8x8192 .f32) (X : BufTy.Contents (Elt F) arg3.view.ty) (r v : ℕ) (hr : r < 6) (hv : v < 64) :
    Vec F S1x8x128 .f32 :=
  View.readAt (Elt F) arg3.view (Rect.unit (s := S6x8x8192) ![r, 0, 128 * v] S1x8x128.size (chunk_inb r v hr hv)).toLoadRect X

/-- The threshold of edge `2k + d`, as the kernel computes it from the trip's number. -/
def thr (k : Fin k0_t1_loop.trips) (d : BitVec 32) : F .f32 :=
  Scalar.mulf (Scalar.sitofp .f32 (Scalar.addi (Scalar.muli (Scf.iv 0#32 1#32 k) 2#32) d)) (Scalar.ofBits .f32 0x3EFF0000#32)

/-- The accumulator of the chunks `p, p + 2, …` after `n` of them: the hyperbolic tangents of the chunk minus the threshold, added up. -/
def acc (arg3 : Memref sig .tc .vmem S6x8x8192 .f32) (X : BufTy.Contents (Elt F) arg3.view.ty) (θ : F .f32) (r : ℕ) (hr : r < 6) (p : ℕ) (hp : p < 2) :
    (n : ℕ) → n ≤ 32 → FVec F S8x128 .f32
  | 0, _ => broadcast S8x128 (Scalar.ofBits .f32 0x00000000#32)
  | n + 1, h => addf (acc arg3 X θ r hr p hp n (by omega))
      (tanh (subf (shapeCast S8x128 (chunk arg3 X r (2 * n + p) hr (by omega)) shapeCasts_S1x8x128_S8x128) (broadcast S8x128 θ)))

/-- What the kernel stores for one edge of one row: per lane, both accumulators added up over the sublanes. -/
def part (arg3 : Memref sig .tc .vmem S6x8x8192 .f32) (X : BufTy.Contents (Elt F) arg3.view.ty) (θ : F .f32) (r : ℕ) (hr : r < 6) :
    FVec F S1x1x1x128 .f32 :=
  shapeCast S1x1x1x128 (shapeCast S1x128 (multiReduction .add [0] S128
    (addf (acc arg3 X θ r hr 0 (by omega) 32 (by omega)) (acc arg3 X θ r hr 1 (by omega) 32 (by omega)))
    0x00000000#32 reduces_S8x128_S128 (.inl rfl) rfl) shapeCasts_S128_S1x128) shapeCasts_S1x128_S1x1x1x128

/-- Where the kernel stores edge `2k + d` of row `r`. -/
def off (k : Fin k0_t1_loop.trips) (d : Fin 2) (r : Fin 6) : Fin 4 → ℕ :=
  match r with
  | ⟨0, _⟩ => k0_off1 k (BitVec.ofNat 32 d.val)
  | ⟨1, _⟩ => k0_off2 k (BitVec.ofNat 32 d.val)
  | ⟨2, _⟩ => k0_off3 k (BitVec.ofNat 32 d.val)
  | ⟨3, _⟩ => k0_off4 k (BitVec.ofNat 32 d.val)
  | ⟨4, _⟩ => k0_off5 k (BitVec.ofNat 32 d.val)
  | ⟨5, _⟩ => k0_off6 k (BitVec.ofNat 32 d.val)

/-- The store of edge `2k + d` of row `r` goes to row `2k + d`, column `r` of the scratch array. -/
theorem off_eq (k : Fin k0_t1_loop.trips) (d : Fin 2) (r : Fin 6) : off k d r = ![2 * k.val + d.val, r.val, 0, 0] :=
  match r with
  | ⟨0, _⟩ => k0_off1_eq k d
  | ⟨1, _⟩ => k0_off2_eq k d
  | ⟨2, _⟩ => k0_off3_eq k d
  | ⟨3, _⟩ => k0_off4_eq k d
  | ⟨4, _⟩ => k0_off5_eq k d
  | ⟨5, _⟩ => k0_off6_eq k d

/-- It lies inside the scratch array. -/
theorem off_inb (k : Fin k0_t1_loop.trips) (d : Fin 2) (r : Fin 6) : ∀ a, off k d r a + S1x1x1x128.size a ≤ S258x6x1x128.size a :=
  match r with
  | ⟨0, _⟩ => k0_off1_inb k d
  | ⟨1, _⟩ => k0_off2_inb k d
  | ⟨2, _⟩ => k0_off3_inb k d
  | ⟨3, _⟩ => k0_off4_inb k d
  | ⟨4, _⟩ => k0_off5_inb k d
  | ⟨5, _⟩ => k0_off6_inb k d

/-- The piece a trip writes for edge `2k + d` of row `r`. -/
def piece (arg3 : Memref sig .tc .vmem S6x8x8192 .f32) (X : BufTy.Contents (Elt F) arg3.view.ty) (k : Fin k0_t1_loop.trips) (d : Fin 2) (r : Fin 6) :
    View.Piece (Elt F) S258x6x1x128 .f32 :=
  ⟨Rect.unit (off k d r) S1x1x1x128.size (off_inb k d r), part arg3 X (thr k (BitVec.ofNat 32 d.val)) r.val r.isLt⟩

set_option maxRecDepth 100000 in
set_option maxHeartbeats 400000 in
/-- The pieces of one trip, last first: the six rows of edge `2k + 1`, then the six rows of edge `2k`. -/
theorem trip_pieces (𝒱 : Variants) (c : Dev nD) (bd : Option 𝒱.V) (i : grid0.Coords) (arg1 : Memref sig .tc .vmem S1x6x8x8192 .f32)
    (harg1 : arg1.IsWhole) (arg2 : Memref sig .tc .vmem S6x256x8 .f32) (harg2 : arg2.IsWhole) (arg3 : Memref sig .tc .vmem S6x8x8192 .f32)
    (harg3 : arg3.IsWhole) (arg4 : Memref sig .tc .vmem S258x6x1x128 .f32) (harg4 : arg4.IsWhole) (X : BufTy.Contents (Elt F) arg3.view.ty)
    (k : Fin k0_t1_loop.trips) :
    tripL_k0_t1 (F := F) 𝒱 c bd i arg1 harg1 arg2 harg2 arg3 harg3 arg4 harg4 X k =
      [piece arg3 X k 1 5, piece arg3 X k 1 4, piece arg3 X k 1 3, piece arg3 X k 1 2, piece arg3 X k 1 1, piece arg3 X k 1 0,
       piece arg3 X k 0 5, piece arg3 X k 0 4, piece arg3 X k 0 3, piece arg3 X k 0 2, piece arg3 X k 0 1, piece arg3 X k 0 0] := by
  unfold tripL_k0_t1 trip_k0_t1
  rfl

/-- A piece is a trip's exactly when it is the piece of one of the two edges and one of the six rows. -/
theorem mem_trip (𝒱 : Variants) (c : Dev nD) (bd : Option 𝒱.V) (i : grid0.Coords) (arg1 : Memref sig .tc .vmem S1x6x8x8192 .f32)
    (harg1 : arg1.IsWhole) (arg2 : Memref sig .tc .vmem S6x256x8 .f32) (harg2 : arg2.IsWhole) (arg3 : Memref sig .tc .vmem S6x8x8192 .f32)
    (harg3 : arg3.IsWhole) (arg4 : Memref sig .tc .vmem S258x6x1x128 .f32) (harg4 : arg4.IsWhole) (X : BufTy.Contents (Elt F) arg3.view.ty)
    (k : Fin k0_t1_loop.trips) (p : View.Piece (Elt F) S258x6x1x128 .f32) :
    p ∈ tripL_k0_t1 (F := F) 𝒱 c bd i arg1 harg1 arg2 harg2 arg3 harg3 arg4 harg4 X k ↔ ∃ d r, p = piece arg3 X k d r := by
  rw [trip_pieces]
  simp only [List.mem_cons, List.not_mem_nil, or_false]
  constructor
  · rintro (h | h | h | h | h | h | h | h | h | h | h | h) <;> exact ⟨_, _, h⟩
  · rintro ⟨d, r, rfl⟩
    fin_cases d <;> fin_cases r <;> simp

/-- The threshold of edge `e`. -/
def edge (e : ℕ) : F .f32 := Scalar.mulf (Scalar.sitofp .f32 (BitVec.ofNat 32 e)) (Scalar.ofBits .f32 0x3EFF0000#32)

/-- The two thresholds of trip `k` are those of the edges `2k` and `2k + 1`. -/
theorem thr_eq (k : Fin k0_t1_loop.trips) (d : Fin 2) : thr (F := F) k (BitVec.ofNat 32 d.val) = edge (2 * k.val + d.val) := by
  unfold thr edge
  congr 2
  unfold Scf.iv Scalar.addi Scalar.muli
  simp [IntOp.addi, IntOp.muli, BitVec.ofNat_add, BitVec.ofNat_mul, BitVec.mul_comm]

/-- What the scratch array holds after the loop: at edge `e`, row `r`, lane `l`, the stored sum of that edge and row. -/
def sums (arg3 : Memref sig .tc .vmem S6x8x8192 .f32) (X : BufTy.Contents (Elt F) arg3.view.ty) : S258x6x1x128.Idx → F .f32 := fun y =>
  part arg3 X (edge (y 0).val) (y 1).val (y 1).isLt (ix4 0 0 0 ⟨(y 3).val, (y 3).isLt⟩)

/-- Read at given coordinates. -/
theorem sums_at (arg3 : Memref sig .tc .vmem S6x8x8192 .f32) (X : BufTy.Contents (Elt F) arg3.view.ty) (y : S258x6x1x128.Idx) (e r : ℕ) (hr : r < 6)
    (x : S1x1x1x128.Idx) (h0 : (y 0).val = e) (h1 : (y 1).val = r) (h3 : (y 3).val = (x 3).val) : sums arg3 X y = part arg3 X (edge e) r hr x := by
  subst h0 h1
  unfold sums
  congr 1
  funext a
  match a with
  | ⟨0, _⟩ => exact Fin.ext (by have : (x 0).val < 1 := (x 0).isLt; show 0 = (x 0).val; omega)
  | ⟨1, _⟩ => exact Fin.ext (by have : (x 1).val < 1 := (x 1).isLt; show 0 = (x 1).val; omega)
  | ⟨2, _⟩ => exact Fin.ext (by have : (x 2).val < 1 := (x 2).isLt; show 0 = (x 2).val; omega)
  | ⟨3, _⟩ => exact Fin.ext h3

/-- Each piece is a block of `sums`. -/
theorem piece_block (arg3 : Memref sig .tc .vmem S6x8x8192 .f32) (X : BufTy.Contents (Elt F) arg3.view.ty) (k : Fin k0_t1_loop.trips) (d : Fin 2)
    (r : Fin 6) (x : (piece arg3 X k d r).1.shape.Idx) : (piece arg3 X k d r).2 x = sums arg3 X ((piece arg3 X k d r).1.emb x) := by
  have ho := off_eq k d r
  have e (a) : (((piece arg3 X k d r).1.emb x) a).val = off k d r a + 1 * (x a).val := rfl
  have x0 : (x 0).val < 1 := (x 0).isLt
  have x1 : (x 1).val < 1 := (x 1).isLt
  refine (congrFun (congrArg (fun θ => part arg3 X θ r.val r.isLt) (thr_eq k d)) x).trans
    (sums_at arg3 X _ _ _ r.isLt x ?_ ?_ ?_).symm
  · refine (e 0).trans ?_; rw [ho]; show 2 * k.val + d.val + 1 * (x 0).val = _; omega
  · refine (e 1).trans ?_; rw [ho]; show r.val + 1 * (x 1).val = _; omega
  · refine (e 3).trans ?_; rw [ho]; show 0 + 1 * (x 3).val = _; omega

/-- After `n` trips the pieces are blocks of `sums`, and they cover the edges below `2n`. -/
theorem pieces_of_trips (𝒱 : Variants) (c : Dev nD) (bd : Option 𝒱.V) (i : grid0.Coords) (arg1 : Memref sig .tc .vmem S1x6x8x8192 .f32)
    (harg1 : arg1.IsWhole) (arg2 : Memref sig .tc .vmem S6x256x8 .f32) (harg2 : arg2.IsWhole) (arg3 : Memref sig .tc .vmem S6x8x8192 .f32)
    (harg3 : arg3.IsWhole) (arg4 : Memref sig .tc .vmem S258x6x1x128 .f32) (harg4 : arg4.IsWhole) (X : BufTy.Contents (Elt F) arg3.view.ty)
    (n : ℕ) (hn : n ≤ k0_t1_loop.trips) :
    (∀ p ∈ pb_k0_t1 (F := F) 𝒱 c bd i arg1 harg1 arg2 harg2 arg3 harg3 arg4 harg4 X n, ∀ x : p.1.shape.Idx, p.2 x = sums arg3 X (p.1.emb x))
    ∧ ∀ y : S258x6x1x128.Idx, (y 0).val < 2 * n → ∃ p ∈ pb_k0_t1 (F := F) 𝒱 c bd i arg1 harg1 arg2 harg2 arg3 harg3 arg4 harg4 X n, y ∈ p.1.set := by
  induction n with
  | zero =>
    refine ⟨fun p hp => ?_, fun y hy => absurd hy (by omega)⟩
    rw [pb_k0_t1] at hp
    exact absurd hp List.not_mem_nil
  | succ n ih =>
    obtain ⟨ih1, ih2⟩ := ih (by omega)
    rw [pb_k0_t1_succ (k := ⟨n, hn⟩)]
    refine ⟨fun p hp => ?_, fun y hy => ?_⟩
    · rcases List.mem_append.mp hp with hp | hp
      · obtain ⟨d, r, rfl⟩ := (mem_trip ..).mp hp
        exact piece_block arg3 X _ d r
      · exact ih1 p hp
    · by_cases hlt : (y 0).val < 2 * n
      · obtain ⟨p, hp, hy⟩ := ih2 y hlt
        exact ⟨p, List.mem_append_right _ hp, hy⟩
      · refine ⟨piece arg3 X ⟨n, hn⟩ ⟨(y 0).val - 2 * n, by omega⟩ ⟨(y 1).val, (y 1).isLt⟩,
          List.mem_append_left _ ((mem_trip ..).mpr ⟨_, _, rfl⟩), ?_⟩
        refine (Rect.mem_set_unit (inb := off_inb _ _ _)).mpr fun a => ?_
        rw [off_eq]
        have y2 : (y 2).val < 1 := (y 2).isLt
        have y3 : (y 3).val < 128 := (y 3).isLt
        match a with
        | ⟨0, _⟩ => show 2 * n + ((y 0).val - 2 * n) ≤ (y 0).val ∧ (y 0).val < 2 * n + ((y 0).val - 2 * n) + 1; omega
        | ⟨1, _⟩ => show (y 1).val ≤ (y 1).val ∧ (y 1).val < (y 1).val + 1; omega
        | ⟨2, _⟩ => show 0 ≤ (y 2).val ∧ (y 2).val < 0 + 1; omega
        | ⟨3, _⟩ => show 0 ≤ (y 3).val ∧ (y 3).val < 0 + 128; omega

/-- So after the whole loop the scratch array reads `sums` everywhere. -/
theorem canon_loop (𝒱 : Variants) (c : Dev nD) (bd : Option 𝒱.V) (i : grid0.Coords) (arg1 : Memref sig .tc .vmem S1x6x8x8192 .f32)
    (harg1 : arg1.IsWhole) (arg2 : Memref sig .tc .vmem S6x256x8 .f32) (harg2 : arg2.IsWhole) (arg3 : Memref sig .tc .vmem S6x8x8192 .f32)
    (harg3 : arg3.IsWhole) (arg4 : Memref sig .tc .vmem S258x6x1x128 .f32) (harg4 : arg4.IsWhole) (X : BufTy.Contents (Elt F) arg3.view.ty) :
    View.canon (pb_k0_t1 (F := F) 𝒱 c bd i arg1 harg1 arg2 harg2 arg3 harg3 arg4 harg4 X k0_t1_loop.trips) = sums arg3 X := by
  funext y
  obtain ⟨h1, h2⟩ := pieces_of_trips (F := F) 𝒱 c bd i arg1 harg1 arg2 harg2 arg3 harg3 arg4 harg4 X k0_t1_loop.trips le_rfl
  have ht : k0_t1_loop.trips = 129 := by decide
  have hy : (y 0).val < 258 := (y 0).isLt
  simpa using View.canon_append_of_pieces (sums arg3 X) [] _ h1 y (h2 y (by omega))

end Cert.Hist

end
-- ==== Proof.Block.lean ====
/- What one grid point of the kernel leaves in the output's staging buffer: every row is one function of that row's sums.
   Stated for every instance of the float operations. -/
module

public import proofs.«01_k».proof.Proof.Gen.KernelIdeal.Frame
public import proofs.«01_k».proof.Proof.Trip

@[expose] public section

noncomputable section

namespace Cert.Hist

open Idealize.ShloMosaic Idealize.ShloMosaic.TcCoe Idealize.ShloMosaic.ValueIdx Idealize.ShloMosaic.Tactic
open Cert.KernelIdeal Cert.KernelIdeal.Gen

variable {F : FTy → Type} [FloatOps F]

/-- The output block as a function of the sums: row `r` is the kernel's closing computation on the sums of row `r`. -/
def blockOut (S : S258x6x1x128.Idx → F .f32) : Vec F S6x256x8 .f32 := fun y =>
  k0_pay2 k0_pay1234 (fun j => S (ix4 (j 0) (y 0) 0 (j 3))) (ix3 0 (y 1) (y 2))

/-- The store of row `r` writes row `r` of `blockOut`. -/
theorem row_piece (S : S258x6x1x128.Idx → F .f32) (r : Fin 6) (inb : ∀ a, (![r.val, 0, 0] : Fin 3 → ℕ) a + S1x256x8.size a ≤ S6x256x8.size a)
    (inb' : ∀ a, (![0, r.val, 0, 0] : Fin 4 → ℕ) a + S258x1x1x128.size a ≤ S258x6x1x128.size a) (w : FVec F S258x1x1x128 .f32)
    (hw : w = fun j => S ((Rect.unit (s := S258x6x1x128) ![0, r.val, 0, 0] S258x1x1x128.size inb').toLoadRect.idx j)) (x : S1x256x8.Idx) :
    k0_pay2 k0_pay1234 w x = blockOut S ((Rect.unit (s := S6x256x8) ![r.val, 0, 0] S1x256x8.size inb).emb x) := by
  subst hw
  have hx0 : (x 0).val < 1 := (x 0).isLt
  unfold blockOut
  refine congr (congrArg (k0_pay2 k0_pay1234) (funext fun j => congrArg S (funext fun a => Fin.ext ?_))) (funext fun a => Fin.ext ?_)
  · have hj1 : (j 1).val < 1 := (j 1).isLt
    have hj2 : (j 2).val < 1 := (j 2).isLt
    match a with
    | ⟨0, _⟩ => show 0 + 1 * (j 0).val = (j 0).val; omega
    | ⟨1, _⟩ => show r.val + 1 * (j 1).val = r.val + 1 * (x 0).val; omega
    | ⟨2, _⟩ => show 0 + 1 * (j 2).val = 0; omega
    | ⟨3, _⟩ => show 0 + 1 * (j 3).val = (j 3).val; omega
  · match a with
    | ⟨0, _⟩ => show (x 0).val = 0; omega
    | ⟨1, _⟩ => show (x 1).val = 0 + 1 * (x 1).val; omega
    | ⟨2, _⟩ => show (x 2).val = 0 + 1 * (x 2).val; omega

/-- The contents of the first scratch buffer after the kernel's store of the halved samples. -/
def halved (arg3 : Memref sig .tc .vmem S6x8x8192 .f32) (x0 : Vec F S1x6x8x8192 .f32) : BufTy.Contents (Elt F) arg3.view.ty :=
  arg3.view.writes (Elt F) arg3.view.junk
    [⟨Rect.unit ![0, 0, 0] S6x8x8192.size inb_S6x8x8192_S6x8x8192_0_0_0, k0_pay1233 x0⟩]

/-- A lane chunk of it holds the halved samples of that chunk. -/
theorem chunk_halved (arg3 : Memref sig .tc .vmem S6x8x8192 .f32) (x0 : Vec F S1x6x8x8192 .f32) (r v : ℕ) (hr : r < 6) (hv : v < 64)
    (j : S1x8x128.Idx) :
    chunk arg3 (halved arg3 x0) r v hr hv j
      = k0_pay1233 x0 (ix3 ⟨r, hr⟩ ⟨(j 1).val, (j 1).isLt⟩ ⟨128 * v + (j 2).val, by have : (j 2).val < 128 := (j 2).isLt; omega⟩) := by
  have hj0 : (j 0).val < 1 := (j 0).isLt
  unfold chunk halved
  rw [View.readAt_writes_junk_eq_canon, View.canon_unit_zero (funext fun a => by fin_cases a <;> rfl)]
  refine congrArg (k0_pay1233 x0) (funext fun a => Fin.ext ?_)
  match a with
  | ⟨0, _⟩ => show r + 1 * (j 0).val = r; omega
  | ⟨1, _⟩ => show 0 + 1 * (j 1).val = (j 1).val; omega
  | ⟨2, _⟩ => show 128 * v + 1 * (j 2).val = 128 * v + (j 2).val; omega

/-- The output's staging buffer after a grid point holds `blockOut` of the loop's sums over the halved input block. -/
theorem out_eq (c : Dev nD) (i : grid0.Coords) (arg1 : Memref sig .tc .vmem S1x6x8x8192 .f32) (harg1 : arg1.IsWhole)
    (arg2 : Memref sig .tc .vmem S6x256x8 .f32) (harg2 : arg2.IsWhole) (arg3 : Memref sig .tc .vmem S6x8x8192 .f32)
    (harg3 : arg3.IsWhole) (arg4 : Memref sig .tc .vmem S258x6x1x128 .f32) (harg4 : arg4.IsWhole) (x0 : Vec F S1x6x8x8192 .f32) :
    out0_A_1 c i arg1 harg1 arg2 harg2 arg3 harg3 arg4 harg4 x0 = blockOut (sums arg3 (halved arg3 x0)) := by
  funext y
  unfold out0_A_1
  rw [View.read_writes_eq_canon _ _ _ (cover0_A_1 c i arg1 harg1 arg2 harg2 arg3 harg3 arg4 harg4 x0)]
  refine View.canon_apply_of_pieces _ _ ?_ y (cover0_A_1 c i arg1 harg1 arg2 harg2 arg3 harg3 arg4 harg4 x0 y)
  have hx : View.readAt (Elt F) arg1.view (Rect.unit (s := S1x6x8x8192) ![0, 0, 0, 0] S1x6x8x8192.size inb_S1x6x8x8192_S1x6x8x8192_0_0_0_0).toLoadRect
      (harg1.unread x0) = x0 := by
    rw [View.readAt_eq_ld, harg1.read_unread, View.ld_unit_zero (funext fun a => by fin_cases a <;> rfl)]
  have hw (r : Fin 6) (inb' : ∀ a, (![0, r.val, 0, 0] : Fin 4 → ℕ) a + S258x1x1x128.size a ≤ S258x6x1x128.size a) :
      arg4.view.readCov (pb_k0_t1 (F := F) Variants.none c none i arg1 harg1 arg2 harg2 arg3 harg3 arg4 harg4 (halved arg3 x0) k0_t1_loop.trips)
          (Rect.unit (s := S258x6x1x128) ![0, r.val, 0, 0] S258x1x1x128.size inb').toLoadRect
        = fun j => sums arg3 (halved arg3 x0) ((Rect.unit (s := S258x6x1x128) ![0, r.val, 0, 0] S258x1x1x128.size inb').toLoadRect.idx j) := by
    rw [View.readCov_eq_canon', canon_loop]
  unfold kernelRun0_A
  dsimp only
  sl_unfold_words
  rw [hx]
  intro p hp
  simp only [List.mem_cons, List.not_mem_nil, or_false] at hp
  rcases hp with rfl | rfl | rfl | rfl | rfl | rfl
  · exact row_piece _ 5 inb_S6x256x8_S1x256x8_5_0_0 inb_S258x6x1x128_S258x1x1x128_0_5_0_0 _ (hw 5 _)
  · exact row_piece _ 4 inb_S6x256x8_S1x256x8_4_0_0 inb_S258x6x1x128_S258x1x1x128_0_4_0_0 _ (hw 4 _)
  · exact row_piece _ 3 inb_S6x256x8_S1x256x8_3_0_0 inb_S258x6x1x128_S258x1x1x128_0_3_0_0 _ (hw 3 _)
  · exact row_piece _ 2 inb_S6x256x8_S1x256x8_2_0_0 inb_S258x6x1x128_S258x1x1x128_0_2_0_0 _ (hw 2 _)
  · exact row_piece _ 1 inb_S6x256x8_S1x256x8_1_0_0 inb_S258x6x1x128_S258x1x1x128_0_1_0_0 _ (hw 1 _)
  · exact row_piece _ 0 inb_S6x256x8_S1x256x8_0_0_0 inb_S258x6x1x128_S258x1x1x128_0_0_0_0 _ (hw 0 _)

end Cert.Hist

end
-- ==== Proof.Sums.lean ====
/- The sums that the kernel's loop stores, over the extended reals: for each edge, row and lane, the hyperbolic tangents of the
   halved samples minus the edge's threshold, added up over sublanes and lane chunks. They are real numbers, and over all lanes
   they add up to one sum over the row's samples. -/
module

public import proofs.«01_k».proof.Proof.Tail
public import proofs.«01_k».proof.Proof.Block

@[expose] public section

noncomputable section

namespace Cert.Hist

open Idealize.ShloMosaic Idealize.ShloMosaic.TcCoe
open Cert.KernelIdeal Cert.KernelIdeal.Gen

/-- The hyperbolic tangent of an extended real, which is a real number (`-1` and `1` at the infinities). -/
def tanhR (x : EReal) : ℝ := (Ideal.tanh x).toReal

/-- So `tanhR` loses nothing. -/
theorem tanh_eq (x : EReal) : Ideal.tanh x = ((tanhR x : ℝ) : EReal) := by
  induction x with
  | bot => simp [tanhR]
  | coe x => simp [tanhR]
  | top => simp [tanhR]

/-- A sum over `m * n` places, cut into `m` runs of `n`. -/
theorem sum_runs {M : Type*} [AddCommMonoid M] (m n : ℕ) (f : Fin (m * n) → M) :
    ∑ c, f c = ∑ a : Fin m, ∑ b : Fin n, f ⟨n * a.val + b.val, by
      have := Nat.mul_le_mul_left n (Nat.succ_le_of_lt a.isLt); rw [Nat.mul_succ, Nat.mul_comm n m] at this; omega⟩ := by
  rw [← finProdFinEquiv.sum_comp f, Fintype.sum_prod_type]
  exact Finset.sum_congr rfl fun a _ => Finset.sum_congr rfl fun b _ => congrArg f (Fin.ext (Nat.add_comm _ _))

/-- The total of an edge: the tangents of half the samples minus the edge's threshold, over all samples of a channel. -/
def total (g : Fin 65536 → EReal) (e : ℕ) : ℝ := ∑ n, tanhR (g n * ((1 / 2 : ℝ) : EReal) - ((e * (255 / 512) : ℝ) : EReal))

/-- An accumulator of the loop is the sum of the tangents of its chunks. -/
theorem acc_eq (arg3 : Memref sig .tc .vmem S6x8x8192 .f32) (X : BufTy.Contents (Elt Ideal) arg3.view.ty) (θ : EReal) (r : ℕ) (hr : r < 6)
    (p : ℕ) (hp : p < 2) (n : ℕ) (hn : n ≤ 32) (s : Fin 8) (l : Fin 128) :
    acc (F := Ideal) arg3 X θ r hr p hp n hn (ix2 s l)
      = ((∑ q : Fin n, tanhR (chunk (F := Ideal) arg3 X r (2 * q.val + p) hr (by omega) (ix3 (0 : Fin 1) s l) - θ) : ℝ) : EReal) := by
  induction n with
  | zero => pointwise [acc]; simp
  | succ n ih =>
    rw [Fin.sum_univ_castSucc, EReal.coe_add]
    refine Eq.trans ?_ (congrArg₂ (· + ·) (ih (by omega)) (tanh_eq _))
    pointwise [acc]
    rfl

/-- What the kernel stores for an edge of a row, at one lane: both accumulators over the sublanes. -/
theorem part_eq (arg3 : Memref sig .tc .vmem S6x8x8192 .f32) (X : BufTy.Contents (Elt Ideal) arg3.view.ty) (θ : EReal) (r : ℕ) (hr : r < 6)
    (l : Fin 128) :
    part (F := Ideal) arg3 X θ r hr (ix4 (0 : Fin 1) (0 : Fin 1) (0 : Fin 1) l)
      = ((∑ s : Fin 8, (∑ q : Fin 32, tanhR (chunk (F := Ideal) arg3 X r (2 * q.val + 0) hr (by omega) (ix3 (0 : Fin 1) s l) - θ)
          + ∑ q : Fin 32, tanhR (chunk (F := Ideal) arg3 X r (2 * q.val + 1) hr (by omega) (ix3 (0 : Fin 1) s l) - θ)) : ℝ) : EReal) := by
  pointwise [part]
  simp only [acc_eq, ← EReal.coe_add, ← coe_sum]
  rfl

/-- The word `0x3EFF0000` is 255/512. -/
theorem half_width : Ideal.ofBits .f32 0x3EFF0000#32 = ((255 / 512 : ℝ) : EReal) := by
  simp [Ideal.ofBits, Ideal.ieee, -EReal.coe_mul]; norm_num

/-- The word `0x3F000000` is 1/2. -/
theorem one_half : Ideal.ofBits .f32 0x3F000000#32 = ((1 / 2 : ℝ) : EReal) := by
  simp [Ideal.ofBits, Ideal.ieee, -EReal.coe_mul]; norm_num

/-- The threshold of edge `e`. -/
theorem edge_eq (e : ℕ) (he : e < 258) : edge (F := Ideal) e = ((e * (255 / 512) : ℝ) : EReal) := by
  have h : (BitVec.ofNat 32 e).toInt = (e : ℤ) := by
    rw [BitVec.toInt_eq_toNat_of_lt (by rw [BitVec.toNat_ofNat]; omega), BitVec.toNat_ofNat]; norm_cast; omega
  unfold edge
  rw [Ideal.scalar_mulf_def, Ideal.scalar_sitofp_def, h]
  refine (congrArg (_ * ·) half_width).trans ?_
  rw [Int.cast_natCast, ← EReal.coe_mul]

/-- The kernel halves its samples. -/
theorem halves_eq (x0 : Vec Ideal S1x6x8x8192 .f32) (r : Fin 6) (s : Fin 8) (c : Fin 8192) :
    k0_pay1233 (F := Ideal) x0 (ix3 r s c) = x0 (ix4 (0 : Fin 1) r s c) * ((1 / 2 : ℝ) : EReal) := by
  pointwise [k0_pay1233]
  rw [one_half]

/-- The total of an edge, added up in the kernel's order: per lane, over the sublanes, the even and the odd lane chunks. -/
theorem total_eq (g : Fin 65536 → EReal) (e : ℕ) (f : ℕ → ℝ)
    (hf : ∀ n : Fin 65536, f n.val = tanhR (g n * ((1 / 2 : ℝ) : EReal) - ((e * (255 / 512) : ℝ) : EReal))) :
    total g e = ∑ l : Fin 128, ∑ s : Fin 8, (∑ q : Fin 32, f (8192 * s.val + (128 * (2 * q.val + 0) + l.val))
      + ∑ q : Fin 32, f (8192 * s.val + (128 * (2 * q.val + 1) + l.val))) := by
  have h1 : total g e = ∑ s : Fin 8, ∑ c : Fin 8192, f (8192 * s.val + c.val) :=
    (Finset.sum_congr rfl fun n _ => (hf n).symm).trans (sum_runs 8 8192 fun n => f n.val)
  have h2 (s : Fin 8) : ∑ c : Fin 8192, f (8192 * s.val + c.val)
      = ∑ v : Fin 64, ∑ l : Fin 128, f (8192 * s.val + (128 * v.val + l.val)) :=
    sum_runs 64 128 fun n => f (8192 * s.val + n.val)
  have h3 (s : Fin 8) (l : Fin 128) : ∑ v : Fin 64, f (8192 * s.val + (128 * v.val + l.val))
      = ∑ q : Fin 32, ∑ p : Fin 2, f (8192 * s.val + (128 * (2 * q.val + p.val) + l.val)) :=
    sum_runs 32 2 fun n => f (8192 * s.val + (128 * n.val + l.val))
  rw [h1, Finset.sum_comm (s := (Finset.univ : Finset (Fin 128)))]
  refine Finset.sum_congr rfl fun s _ => ?_
  rw [h2, Finset.sum_comm]
  refine Finset.sum_congr rfl fun l _ => ?_
  rw [h3, ← Finset.sum_add_distrib]
  exact Finset.sum_congr rfl fun q _ => Fin.sum_univ_two _

/-- The output block at row `r` and bin `k`, where the row's samples are `g`. -/
theorem block_value (arg3 : Memref sig .tc .vmem S6x8x8192 .f32) (x0 : Vec Ideal S1x6x8x8192 .f32) (g : Fin 65536 → EReal) (r : Fin 6)
    (hg : ∀ (s : Fin 8) (c : Fin 8192), x0 (ix4 (0 : Fin 1) r s c) = g ⟨8192 * s.val + c.val, by omega⟩) (k : Fin 256) (z : Fin 8) :
    blockOut (F := Ideal) (sums arg3 (halved arg3 x0)) (ix3 r k z)
      = ((total g k.val - total g (k.val + 1) : ℝ) : EReal) * Ideal.div 1 ((total g 0 - total g 256 : ℝ) : EReal) := by
  let f (e n : ℕ) : ℝ := if h : n < 65536 then tanhR (g ⟨n, h⟩ * ((1 / 2 : ℝ) : EReal) - ((e * (255 / 512) : ℝ) : EReal)) else 0
  have hf (e : ℕ) (n : Fin 65536) : f e n.val = tanhR (g n * ((1 / 2 : ℝ) : EReal) - ((e * (255 / 512) : ℝ) : EReal)) := dif_pos n.isLt
  have hc (e v : ℕ) (he : e < 258) (hv : v < 64) (s : Fin 8) (l : Fin 128) :
      tanhR (chunk (F := Ideal) arg3 (halved arg3 x0) r.val v r.isLt hv (ix3 (0 : Fin 1) s l) - edge (F := Ideal) e)
        = f e (8192 * s.val + (128 * v + l.val)) := by
    rw [chunk_halved, edge_eq e he, ← ix3_eq_valueIdx]
    refine Eq.trans ?_ (hf e ⟨8192 * s.val + (128 * v + l.val), by omega⟩).symm
    refine congrArg (fun t => tanhR (t - _)) ((halves_eq x0 r s ⟨128 * v + l.val, by omega⟩).trans ?_)
    rw [hg]
  have hw (e : Fin 258) (l : Fin 128) :
      (fun j : S258x1x1x128.Idx => sums (F := Ideal) arg3 (halved arg3 x0) (ValueIdx.ix4 (j 0) r 0 (j 3))) (ix4 e (0 : Fin 1) (0 : Fin 1) l)
        = ((∑ s : Fin 8, (∑ q : Fin 32, f e.val (8192 * s.val + (128 * (2 * q.val + 0) + l.val))
            + ∑ q : Fin 32, f e.val (8192 * s.val + (128 * (2 * q.val + 1) + l.val))) : ℝ) : EReal) := by
    refine (sums_at (F := Ideal) arg3 _ _ e.val r.val r.isLt (ix4 (0 : Fin 1) (0 : Fin 1) (0 : Fin 1) l) rfl rfl rfl).trans ?_
    rw [part_eq]
    simp only [hc _ _ e.isLt]
  refine Eq.trans ?_ ((tail_value
    (fun j : S258x1x1x128.Idx => sums (F := Ideal) arg3 (halved arg3 x0) (ValueIdx.ix4 (j 0) r 0 (j 3)))
    (fun e l => ∑ s : Fin 8, (∑ q : Fin 32, f e.val (8192 * s.val + (128 * (2 * q.val + 0) + l.val))
      + ∑ q : Fin 32, f e.val (8192 * s.val + (128 * (2 * q.val + 1) + l.val)))) hw k z).trans ?_)
  · rw [ix3_eq_valueIdx, ix3_eq_valueIdx]; rfl
  · rw [← total_eq g _ _ (hf _), ← total_eq g _ _ (hf _), ← total_eq g _ _ (hf _), ← total_eq g _ _ (hf _)]
    rfl

end Cert.Hist

end
-- ==== Proof.Array.lean ====
/- The kernel's result array: what the two grid points leave, and what the host's slice and reshapes make of it, as one function
   of the argument array. -/
module

public import proofs.«01_k».proof.Proof.Sums
public import Idealize.ShloMosaic.Lib.Pipeline.Value

@[expose] public section

set_option maxRecDepth 16384

noncomputable section

namespace Cert.Hist

open Idealize.ShloMosaic Idealize.ShloMosaic.TcCoe Idealize.SL.Sem
open Idealize.ShloMosaic.Pipeline (Dat)
open Cert.KernelIdeal Cert.KernelIdeal.Gen

/-- The histogram of a channel at bin `k`, as the kernel computes it. -/
def hist (g : Fin 65536 → EReal) (k : ℕ) : EReal :=
  ((total g k - total g (k + 1) : ℝ) : EReal) * Ideal.div 1 ((total g 0 - total g 256 : ℝ) : EReal)

/-- Channel `r` of the twelve channels. -/
def chan (x : Vec Ideal S4x3x65536 .f32) (r : ℕ) (hr : r < 12) : Fin 65536 → EReal :=
  fun n => x (ix3 ⟨r / 3, by omega⟩ ⟨r % 3, by omega⟩ n)

/-- The array the two grid points leave: the histogram of each channel, in each of the eight lanes. -/
def lanes (x : Vec Ideal S4x3x65536 .f32) : Vec Ideal S12x256x8 .f32 := fun y => hist (chan x (y 0).val (y 0).isLt) (y 1).val

/-- The result array: the histogram of each channel. -/
def result (x : Vec Ideal S4x3x65536 .f32) : Vec Ideal S4x3x256 .f32 := fun y => hist (fun n => x (ix3 (y 0) (y 1) n)) (y 2).val

variable (m : (ℓ : Loc nD τ sig) → Buf (Elt Ideal) ℓ) (ρ : Dev nD → PrngReg)

/-- The argument array on device `c`. -/
abbrev arg (c : Dev nD) : Vec Ideal S4x3x65536 .f32 := m ((c : Thread nD τ).loc main_arg0)

/-- The pipeline finds the argument reshaped to the two blocks. -/
theorem V_main_v0 (c : Dev nD) : V m c main_v0 = shapeCast S2x6x8x8192 (arg m c) shapeCasts_S4x3x65536_S2x6x8x8192 := by
  show StableHlo.after (List.flatten [hostOps0]) (fun b => m (c, b)) (Proc.devRef .tc main_v0) = _
  simp only [hostOps0, List.flatten_cons, List.flatten_nil, List.append_nil]
  after_results
  rfl

/-- The block index of either window at a grid point. -/
theorem idx0 : ∀ t : Fin cfg0.N, win0_0.index t (0 : Fin 4) = t.val ∧ win0_0.index t (1 : Fin 4) = 0 ∧ win0_0.index t (2 : Fin 4) = 0
    ∧ win0_0.index t (3 : Fin 4) = 0 := (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- There are two grid points. -/
theorem point_lt (t : Fin cfg0.N) : t.val < 2 := by
  have h : cfg0.N = 2 := by decide
  have := t.isLt; omega

/-- The input block of point `t`, at row `r`, is channel `6t + r`. -/
theorem iblk_eq (c : Dev nD) (t : Fin cfg0.N) (r : Fin 6) (s : Fin 8) (l : Fin 8192) :
    (iblk m c 0 t : Vec Ideal S1x6x8x8192 .f32) (ix4 (0 : Fin 1) r s l)
      = chan (arg m c) (6 * t.val + r.val) (by have := point_lt t; omega) ⟨8192 * s.val + l.val, by omega⟩ := by
  have ht := point_lt t
  obtain ⟨e0, e1, e2, e3⟩ := idx0 t
  have hi : ((cfg0.win 0).blk t).view.emb (ix4 (0 : Fin 1) r s l) = (ix4 (⟨t.val, ht⟩ : Fin 2) r s l : S2x6x8x8192.Idx) := by
    funext a; apply Fin.ext
    match a with
    | ⟨0, _⟩ => show win0_0.index t (0 : Fin 4) * 1 + 1 * 0 = t.val; omega
    | ⟨1, _⟩ => show win0_0.index t (1 : Fin 4) * 6 + 1 * r.val = r.val; omega
    | ⟨2, _⟩ => show win0_0.index t (2 : Fin 4) * 8 + 1 * s.val = s.val; omega
    | ⟨3, _⟩ => show win0_0.index t (3 : Fin 4) * 8192 + 1 * l.val = l.val; omega
  show V m c main_v0 (((cfg0.win 0).blk t).view.emb (ix4 (0 : Fin 1) r s l)) = _
  rw [hi, V_main_v0]
  unfold chan
  refine shapeCast_apply _ _ _ _ ?_
  rw [Shape.rowMajor_val_three, Shape.rowMajor_val_four]
  show ((6 * t.val + r.val) / 3 * 3 + (6 * t.val + r.val) % 3) * 65536 + (8192 * s.val + l.val) = ((t.val * 6 + r.val) * 8 + s.val) * 8192 + l.val
  omega

/-- What point `t` writes back is its block of `lanes`. -/
theorem flushed_eq (c : Dev nD) (t : Fin cfg0.N) :
    (dats m 0 c).flushed 1 t = ((cfg0.win 1).blk t).view.read (Elt Ideal) (lanes (arg m c)) := by
  have ht := point_lt t
  obtain ⟨e0, e1, e2⟩ := idx1 t
  show (cfg0.win 1).cut (grid0.coords t) ((dats m 0 c).after 1 t) = _
  rw [after0_1]
  unfold outsAt0
  rw [out_eq]
  funext y
  obtain ⟨r, k, z, rfl⟩ : ∃ (r : Fin 6) (k : Fin 256) (z : Fin 8), y = ix3 r k z := ⟨y 0, y 1, y 2, by
    funext a; match a with | ⟨0, _⟩ => rfl | ⟨1, _⟩ => rfl | ⟨2, _⟩ => rfl⟩
  have hi : ((cfg0.win 1).blk t).view.emb (ix3 r k z) = (ix3 (⟨6 * t.val + r.val, by omega⟩ : Fin 12) k z : S12x256x8.Idx) := by
    funext a; apply Fin.ext
    match a with
    | ⟨0, _⟩ => show win0_1.index t (0 : Fin 3) * 6 + 1 * r.val = 6 * t.val + r.val; omega
    | ⟨1, _⟩ => show win0_1.index t (1 : Fin 3) * 256 + 1 * k.val = k.val; omega
    | ⟨2, _⟩ => show win0_1.index t (2 : Fin 3) * 8 + 1 * z.val = z.val; omega
  show blockOut _ (ix3 r k z) = lanes (arg m c) (((cfg0.win 1).blk t).view.emb (ix3 r k z))
  rw [hi]
  exact block_value _ _ _ r (iblk_eq m c t r) k z

/-- Every index of the array lies in a block. -/
theorem covered (i : S12x256x8.Idx) : ∃ t : Fin cfg0.N, (cfg0.win 1).flush t = true ∧ i ∈ ((cfg0.win 1).blk t).view.set := by
  have h0 : (i 0).val < 12 := (i 0).isLt
  have h1 : (i 1).val < 256 := (i 1).isLt
  have h2 : (i 2).val < 8 := (i 2).isLt
  have hN : cfg0.N = 2 := by decide
  have ht : (i 0).val / 6 < cfg0.N := by omega
  obtain ⟨e0, e1, e2⟩ := idx1 ⟨(i 0).val / 6, ht⟩
  have e0 : win0_1.index ⟨(i 0).val / 6, ht⟩ (0 : Fin 3) = (i 0).val / 6 := e0
  refine ⟨⟨(i 0).val / 6, ht⟩, (by decide +kernel : ∀ t : Fin grid0.N, win0_1.flush t = true) _, ?_⟩
  show i ∈ ((View.whole main_v1).slice (win0_1.rect ⟨(i 0).val / 6, ht⟩)).set
  rw [View.set_slice_whole, Rect.mem_set_unit]
  intro a
  match a with
  | ⟨0, _⟩ => show win0_1.index ⟨(i 0).val / 6, ht⟩ (0 : Fin 3) * 6 ≤ (i 0).val ∧ (i 0).val < win0_1.index ⟨(i 0).val / 6, ht⟩ (0 : Fin 3) * 6 + 6; omega
  | ⟨1, _⟩ => show win0_1.index ⟨(i 0).val / 6, ht⟩ (1 : Fin 3) * 256 ≤ (i 1).val ∧ (i 1).val < win0_1.index ⟨(i 0).val / 6, ht⟩ (1 : Fin 3) * 256 + 256; omega
  | ⟨2, _⟩ => show win0_1.index ⟨(i 0).val / 6, ht⟩ (2 : Fin 3) * 8 ≤ (i 2).val ∧ (i 2).val < win0_1.index ⟨(i 0).val / 6, ht⟩ (2 : Fin 3) * 8 + 8; omega

/-- So the array ends as `lanes` of the argument. -/
theorem arr_eq (c : Dev nD) : (dats m 0 c).arrAt 1 cfg0.N = lanes (arg m c) :=
  (dats m 0 c).arrAt_eq_of_cover 1 _ (fun t _ => flushed_eq m c t) covered

/-- The host lines after the region take lane zero and reshape: the result array holds the histograms. -/
theorem tail_eq (c : Dev nD) : Pipeline.afterTail₀ cfgs (dats m) 0 (V0 m) [hostOps1] c main_v4 = result (arg m c) := by
  have h : Pipeline.afterTail₀ cfgs (dats m) 0 (V0 m) [hostOps1] c main_v4
      = shapeCast S4x3x256 (shapeCast S12x256 (extractStridedSlice S12x256x1 ![0, 0, 0] (lanes (arg m c)) slices_S12x256x8_S12x256x1_0_0_0)
          shapeCasts_S12x256x1_S12x256) shapeCasts_S12x256_S4x3x256 := by
    unfold Pipeline.afterTail₀
    simp only [hostOps1, List.flatten_cons, List.flatten_nil, List.append_nil]
    after_results
    exact congrArg (fun A : Vec Ideal S12x256x8 .f32 => shapeCast S4x3x256 (shapeCast S12x256
        (extractStridedSlice S12x256x1 ![0, 0, 0] A slices_S12x256x8_S12x256x1_0_0_0) shapeCasts_S12x256x1_S12x256) shapeCasts_S12x256_S4x3x256)
      ((Pipeline.withArrays_arr spec0 launch0.win.arr_inj c (V0 m c) (fun w => (dats m 0 c).arrAt w cfg0.N) 1).trans (arr_eq m c))
  rw [h]
  funext y
  obtain ⟨b, d, k, rfl⟩ : ∃ (b : Fin 4) (d : Fin 3) (k : Fin 256), y = ix3 b d k := ⟨y 0, y 1, y 2, by
    funext a; match a with | ⟨0, _⟩ => rfl | ⟨1, _⟩ => rfl | ⟨2, _⟩ => rfl⟩
  pointwise
  show hist (chan (arg m c) (b.val * 3 + d.val) _) k.val = hist (fun n => arg m c (ix3 b d n)) k.val
  refine congrArg (hist · k.val) (funext fun n => congrArg (arg m c) ?_)
  exact congrArg₂ (ix3 · · n) (Fin.ext (by show (b.val * 3 + d.val) / 3 = b.val; omega)) (Fin.ext (by show (b.val * 3 + d.val) % 3 = d.val; omega))

/-- The kernel's run: the result array ends at the histograms, the argument unchanged. -/
theorem run_kernel : θ_run defs (onTc (τ := τ) (main (F := Ideal))) ⟨m, fun _ => 0, ρ⟩ fun r => ∀ c : Dev nD,
      r.2.mem ((c.tc : Thread nD τ).loc main_v4) = result (arg m c)
      ∧ r.2.mem ((c.tc : Thread nD τ).loc main_arg0) = m ((c.tc : Thread nD τ).loc main_arg0) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c)⟩) (run_main m ρ)

end Cert.Hist

end
-- ==== Proof.Sigmoid.lean ====
/- The logistic function in terms of the hyperbolic tangent, over the extended reals, and what follows for the histogram: the
   weight of a sample in a bin is half the difference of the tangents at the bin's two edges, the weights of all bins telescope,
   and their sum is positive as soon as one sample of the channel is finite. -/
module

public import proofs.«01_k».proof.Proof.Sums

@[expose] public section

noncomputable section

namespace Cert.Hist

open Idealize.ShloMosaic

/-- The logistic function as the reference computes it. -/
def sigm (y : EReal) : EReal := Ideal.div 1 (1 + Ideal.exp (-y))

/-- The logistic function is half of one plus the tangent of half its argument, at the infinities too. -/
theorem sigm_eq (y : EReal) : sigm y = (((1 + tanhR (y * ((1 / 2 : ℝ) : EReal))) / 2 : ℝ) : EReal) := by
  unfold sigm
  induction y with
  | bot =>
    have h : (1 : EReal) + ⊤ = ⊤ := EReal.coe_add_top 1
    rw [EReal.bot_mul_coe_of_pos (by norm_num)]
    simp [tanhR, Ideal.div, h]
  | top =>
    rw [EReal.top_mul_coe_of_pos (by norm_num)]
    simp [tanhR, Ideal.div]
  | coe y =>
    rw [← EReal.coe_neg, Ideal.exp_coe, ← EReal.coe_one, ← EReal.coe_add, Ideal.div_coe (by positivity), ← EReal.coe_mul,
      ← EReal.coe_mul, tanhR, Ideal.tanh_coe, EReal.toReal_coe]
    congr 1
    have hs : Real.exp (-y) = Real.exp (-(y / 2)) * Real.exp (-(y / 2)) := by rw [← Real.exp_add]; congr 1; ring
    have hp : Real.exp (y / 2) * Real.exp (-(y / 2)) = 1 := by rw [← Real.exp_add]; simp
    have h1 := Real.exp_pos (y / 2)
    have h2 := Real.exp_pos (-(y / 2))
    rw [show y * (1 / 2) = y / 2 by ring, Real.tanh_eq_sinh_div_cosh, Real.sinh_eq, Real.cosh_eq, hs]
    generalize Real.exp (y / 2) = a at *
    generalize Real.exp (-(y / 2)) = b at *
    have h3 : a + b ≠ 0 := by positivity
    have h4 : 1 + b * b ≠ 0 := by positivity
    field_simp
    linear_combination (-2 : ℝ) * b * hp

/-- Half of a sample's distance to a bin's centre plus half the bin's width is half the sample minus the lower edge's threshold. -/
theorem lower_edge (x : EReal) (k : ℕ) (c : ℝ) (hc : c = 255 / 256 * (k + 1 / 2)) :
    (x - (c : EReal) + ((255 / 512 : ℝ) : EReal)) * ((1 / 2 : ℝ) : EReal) = x * ((1 / 2 : ℝ) : EReal) - ((k * (255 / 512) : ℝ) : EReal) := by
  induction x with
  | bot => simp only [EReal.bot_sub, EReal.bot_add, EReal.bot_mul_coe_of_pos (show (0 : ℝ) < 1 / 2 by norm_num)]
  | top => simp only [EReal.top_sub_coe, EReal.top_add_coe, EReal.top_mul_coe_of_pos (show (0 : ℝ) < 1 / 2 by norm_num)]
  | coe x => simp only [← EReal.coe_sub, ← EReal.coe_add, ← EReal.coe_mul]; congr 1; rw [hc]; ring

/-- Likewise, minus half the bin's width, with the upper edge. -/
theorem upper_edge (x : EReal) (k : ℕ) (c : ℝ) (hc : c = 255 / 256 * (k + 1 / 2)) :
    (x - (c : EReal) - ((255 / 512 : ℝ) : EReal)) * ((1 / 2 : ℝ) : EReal)
      = x * ((1 / 2 : ℝ) : EReal) - (((k + 1 : ℕ) * (255 / 512) : ℝ) : EReal) := by
  induction x with
  | bot => simp only [EReal.bot_sub, EReal.bot_mul_coe_of_pos (show (0 : ℝ) < 1 / 2 by norm_num)]
  | top => simp only [EReal.top_sub_coe, EReal.top_mul_coe_of_pos (show (0 : ℝ) < 1 / 2 by norm_num)]
  | coe x => simp only [← EReal.coe_sub, ← EReal.coe_mul]; congr 1; rw [hc]; push_cast; ring

/-- The weights of a channel's samples in bin `k`, added up. -/
theorem weights_eq (g : Fin 65536 → EReal) (k : ℕ) (c : ℝ) (hc : c = 255 / 256 * (k + 1 / 2)) :
    ∑ n, (sigm (g n - (c : EReal) + ((255 / 512 : ℝ) : EReal)) - sigm (g n - (c : EReal) - ((255 / 512 : ℝ) : EReal)))
      = (((total g k - total g (k + 1)) / 2 : ℝ) : EReal) := by
  simp only [sigm_eq, lower_edge _ k c hc, upper_edge _ k c hc, ← EReal.coe_sub, ← coe_sum]
  refine congrArg Real.toEReal ?_
  rw [total, total, ← Finset.sum_sub_distrib, Finset.sum_div]
  exact Finset.sum_congr rfl fun n _ => by ring

/-- The weights of all bins telescope. -/
theorem telescope (g : Fin 65536 → EReal) :
    ∑ k : Fin 256, (total g k.val - total g (k.val + 1)) / 2 = (total g 0 - total g 256) / 2 := by
  rw [← Finset.sum_div, Fin.sum_univ_eq_sum_range (fun k => total g k - total g (k + 1)) 256, Finset.sum_range_sub']

/-- The hyperbolic tangent grows strictly. -/
theorem tanh_lt {a b : ℝ} (h : a < b) : Real.tanh a < Real.tanh b := by
  have hs : 0 < Real.sinh (b - a) := Real.sinh_pos_iff.2 (by linarith)
  rw [Real.sinh_sub] at hs
  rw [Real.tanh_eq_sinh_div_cosh, Real.tanh_eq_sinh_div_cosh, div_lt_div_iff₀ (Real.cosh_pos a) (Real.cosh_pos b)]
  linarith

/-- A later edge never raises a sample's tangent. -/
theorem tanhR_le (x : EReal) {a b : ℝ} (h : a ≤ b) : tanhR (x - (b : EReal)) ≤ tanhR (x - (a : EReal)) := by
  induction x with
  | bot => simp
  | top => simp
  | coe x =>
    simp only [← EReal.coe_sub, tanhR, Ideal.tanh_coe, EReal.toReal_coe]
    exact (show StrictMono Real.tanh from fun _ _ => tanh_lt).monotone (by linarith)

/-- A later edge lowers a finite sample's tangent. -/
theorem tanhR_lt (x : ℝ) {a b : ℝ} (h : a < b) : tanhR ((x : EReal) - (b : EReal)) < tanhR ((x : EReal) - (a : EReal)) := by
  simp only [← EReal.coe_sub, tanhR, Ideal.tanh_coe, EReal.toReal_coe]
  exact tanh_lt (by linarith)

/-- So a channel with a finite sample has a positive weight over all bins. -/
theorem weight_pos (g : Fin 65536 → EReal) (h : ∃ n, g n ≠ ⊥ ∧ g n ≠ ⊤) : 0 < total g 0 - total g 256 := by
  obtain ⟨n, hb, ht⟩ := h
  refine sub_pos.2 (Finset.sum_lt_sum (fun i _ => tanhR_le _ (by norm_num)) ⟨n, Finset.mem_univ n, ?_⟩)
  rw [← EReal.coe_toReal ht hb, ← EReal.coe_mul]
  exact tanhR_lt _ (by norm_num)

end Cert.Hist

end
-- ==== Proof.Reference.lean ====
/- The reference's result at an index, over the extended reals: the weights of the channel's samples in the bin, divided by the
   weights of all bins; and that this is the histogram as the kernel computes it. -/
module

public import proofs.«01_k».proof.Proof.Sigmoid
public import proofs.«01_k».proof.Proof.Array
public import proofs.«01_k».proof.Proof.Gen.ReferenceIdeal.Read

@[expose] public section

set_option maxRecDepth 16384

noncomputable section

namespace Cert.Hist

open Idealize.ShloMosaic Idealize.ShloMosaic.TcCoe
open Cert.ReferenceIdeal Cert.ReferenceIdeal.Gen Cert.ReferenceIdeal.Read

/-- The constants of the reference. -/
theorem bits_zero : (FloatOps.ofBits .f32 0x00000000#32 : Ideal .f32) = (0 : EReal) := by
  simp [Ideal.ofBits, Ideal.ieee, -EReal.coe_mul]
theorem bits_one : (FloatOps.ofBits .f32 0x3F800000#32 : Ideal .f32) = (1 : EReal) := by
  simp [Ideal.ofBits, Ideal.ieee, -EReal.coe_mul]; norm_num
theorem bits_half : (FloatOps.ofBits .f32 0x3F000000#32 : Ideal .f32) = ((1 / 2 : ℝ) : EReal) := one_half
theorem bits_width : (FloatOps.ofBits .f32 0x3F7F0000#32 : Ideal .f32) = ((255 / 256 : ℝ) : EReal) := by
  simp [Ideal.ofBits, Ideal.ieee, -EReal.coe_mul]; norm_num
theorem bits_half_width : (FloatOps.ofBits .f32 0x3EFF0000#32 : Ideal .f32) = ((255 / 512 : ℝ) : EReal) := half_width

/-- The centre of bin `k`. -/
theorem centre_eq (i : S256.Idx) : val_main_v6 (F := Ideal) i = ((255 / 256 * ((i 0).val + 1 / 2) : ℝ) : EReal) := by
  have h0 : val_main_v0 (F := Ideal) i = (((i 0).val : ℝ) : EReal) := by
    have hi : (i 0).val < 256 := (i 0).isLt
    have ht : (BitVec.ofNat 32 (i 0).val).toInt = ((i 0).val : ℤ) := by
      rw [BitVec.toInt_ofNat']; exact Int.bmod_eq_of_le_mul_two (by omega) (by omega)
    exact (congrArg (fun z : ℤ => ((z : ℝ) : EReal)) ht).trans (by rw [Int.cast_natCast])
  simp only [val_main_v6_apply, val_main_v5_apply, val_main_v4_apply, val_main_v3_apply, val_main_v2_apply, val_main_v1_apply,
    val_main_cst_apply, val_main_cst_0_apply, val_main_cst_1_apply, h0, bits_zero, bits_half, bits_width,
    Ideal.addf_def, Ideal.mulf_def, zero_add, ← EReal.coe_add, ← EReal.coe_mul]

/-- The weight of sample `n` of a channel in bin `k`. -/
theorem weight_eq (x : Vec Ideal S4x3x65536 .f32) (y : S4x3x256.Idx) (n : Fin 65536) :
    val_main_v32 (F := Ideal) x (idx_main_v33 y n)
      = sigm (x (ix3 (y 0) (y 1) n) - ((255 / 256 * ((y 2).val + 1 / 2) : ℝ) : EReal) + ((255 / 512 : ℝ) : EReal))
        - sigm (x (ix3 (y 0) (y 1) n) - ((255 / 256 * ((y 2).val + 1 / 2) : ℝ) : EReal) - ((255 / 512 : ℝ) : EReal)) := by
  simp only [val_main_v32_apply, val_main_v31_apply, val_main_v30_apply, val_main_v29_apply, val_main_v28_apply, val_main_v27_apply,
    val_main_v26_apply, val_main_v25_apply, val_main_v24_apply, val_main_v23_apply, val_main_v22_apply, val_main_v21_apply,
    val_main_v20_apply, val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, centre_eq, val_main_cst_2_apply, val_main_cst_3_apply, val_main_cst_4_apply,
    val_main_cst_5_apply, val_main_cst_6_apply, val_main_cst_7_apply, val_main_cst_8_apply, val_main_cst_9_apply,
    bits_one, bits_half_width, Ideal.addf_def, Ideal.mulf_def, Ideal.subf_def, Ideal.hostDivf_def, Ideal.hostNegf_def,
    Ideal.negf_def, one_mul]
  have e : idx_main_v7 (idx_main_v9 (idx_main_v33 y n)) = ix3 (y 0) (y 1) n := funext fun a => by fin_cases a <;> rfl
  rw [e]
  rfl

/-- The weights of a channel in bin `k`, added up. -/
theorem bin_eq (x : Vec Ideal S4x3x65536 .f32) (y : S4x3x256.Idx) :
    val_main_v33 (F := Ideal) x y
      = (((total (fun n => x (ix3 (y 0) (y 1) n)) (y 2).val - total (fun n => x (ix3 (y 0) (y 1) n)) ((y 2).val + 1)) / 2 : ℝ) : EReal) := by
  rw [val_main_v33_apply, val_main_cst_10_apply, bits_zero, zero_add]
  simp only [weight_eq]
  exact weights_eq (fun n => x (ix3 (y 0) (y 1) n)) (y 2).val _ rfl

/-- The weights of a channel in all bins, added up. -/
theorem all_eq (x : Vec Ideal S4x3x65536 .f32) (y : S4x3.Idx) :
    val_main_v34 (F := Ideal) x y
      = (((total (fun n => x (ix3 (y 0) (y 1) n)) 0 - total (fun n => x (ix3 (y 0) (y 1) n)) 256) / 2 : ℝ) : EReal) := by
  rw [val_main_v34_apply, val_main_cst_11_apply, bits_zero, zero_add, ← telescope, coe_sum]
  exact Finset.sum_congr rfl fun k _ => bin_eq x (idx_main_v34 y k)

/-- The reference's result is the kernel's, when every channel has a finite sample. -/
theorem reference_eq (x : Vec Ideal S4x3x65536 .f32) (hx : ∀ (b : Fin 4) (d : Fin 3), ∃ n, x (ix3 b d n) ≠ ⊥ ∧ x (ix3 b d n) ≠ ⊤) :
    val_main_v37 (F := Ideal) x = result x := by
  funext y
  have hp := weight_pos (fun n => x (ix3 (y 0) (y 1) n)) (hx (y 0) (y 1))
  have hs : val_main_v36 (F := Ideal) x y
      = (((total (fun n => x (ix3 (y 0) (y 1) n)) 0 - total (fun n => x (ix3 (y 0) (y 1) n)) 256) / 2 : ℝ) : EReal) := by
    rw [val_main_v36_apply, val_main_v35_apply]
    exact all_eq x _
  rw [val_main_v37_apply, hs, bin_eq, Ideal.hostDivf_def, Ideal.div_coe (half_pos hp).ne', result, hist, Ideal.div_coe hp.ne',
    one_mul, ← EReal.coe_mul, ← EReal.coe_mul]
  refine congrArg Real.toEReal ?_
  have := hp.ne'
  field_simp

end Cert.Hist

end
-- ==== Proof.Finite.lean ====
/- The precondition, read: every channel of every image has a finite sample. -/
module

public import proofs.«01_k».proof.Pre_some_finite
public import Idealize.ShloMosaic.Lib.Pointwise
public import Idealize.ShloMosaic.Lib.Routing.OpsOrder

@[expose] public section

noncomputable section

namespace Cert.Hist

open Idealize.ShloMosaic
open Cert.Pre_some_finite

/-- The operations of the precondition fit their operands' shapes. -/
theorem finite_facts : Cert.Pre_some_finite.Facts where
  bcast_S_S4x3x65536 := by decide
  reducesTo_S4x3x65536_S4x3_d2 := by decide
  h_S_ := by decide

/-- A sample whose absolute value is below infinity is finite. -/
theorem finite_of_lt (a : EReal) (h : max a (-a) < Ideal.ofBits .f32 0x7F800000#32) : a ≠ ⊥ ∧ a ≠ ⊤ := by
  have ht : Ideal.ofBits .f32 0x7F800000#32 = ⊤ := by simp [Ideal.ofBits, Ideal.ieee]
  rw [ht] at h
  induction a with
  | bot => simp at h
  | top => simp at h
  | coe a => exact ⟨EReal.coe_ne_bot a, EReal.coe_ne_top a⟩

/-- Where the precondition holds, every channel has a finite sample. -/
theorem finite_of_pre [Facts] (x : FVec Ideal S4x3x65536 .f32) (h : fn (F := Ideal) x = fun _ => 1#1) (b : Fin 4) (d : Fin 3) :
    ∃ n : Fin 65536, x (ix3 b d n) ≠ ⊥ ∧ x (ix3 b d n) ≠ ⊤ := by
  have h1 : fn (F := Ideal) x (ix2 b d) = 1#1 := congrFun h _
  revert h1
  pointwise [fn]
  intro h1
  obtain ⟨n, -, hn⟩ := (Idealize.ShloMosaic.Routing.fold_ori _ _).1 h1
  by_cases hl : max (x (ix3 b d n)) (-x (ix3 b d n)) < Ideal.ofBits .f32 0x7F800000#32
  · exact ⟨n, finite_of_lt _ hl⟩
  · exact absurd ((congrArg BitVec.ofBool (decide_eq_false hl)).symm.trans hn) (by decide)

end Cert.Hist

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Reference
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference runs, leaves its argument as it was, and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference leave the same histograms: on each device the kernel leaves `Hist.result` of the argument, and the
    reference's quotient is that function too, because every channel has a finite sample. -/
theorem equal [Cert.Pre_some_finite.Facts] : Cert.algebraic_KernelIdeal_ReferenceIdeal_pre_some_finite := by
  intro m ρ m' ρ' hpre hargs
  refine ⟨fun c => Cert.Hist.result (Cert.Hist.arg m c), Cert.Hist.run_kernel m ρ, ?_⟩
  refine (θ_run Cert.ReferenceIdeal.defs _ _).mono (fun r h c => ⟨(h c).1.trans ?_, (h c).2⟩) (Cert.ReferenceIdeal.Value.run (F := Ideal) m' ρ')
  rw [Cert.ReferenceIdeal.Read.val_main_v37_eq, hargs c]
  exact Cert.Hist.reference_eq (Cert.Hist.arg m c) (Cert.Hist.finite_of_pre _ (hpre c))

/-- Every claim of the certificate. -/
theorem claim : Cert.Claim :=
  haveI := Cert.Hist.finite_facts
  ⟨Cert.Kernel.Gen.facts, Cert.KernelIdeal.Gen.facts, Cert.ReferenceIdeal.Gen.facts, Cert.Hist.finite_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, equal⟩

end Cert.Proof

end
